-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S400x10000 : Shape := ⟨2, ![400, 10000]⟩
abbrev S400x128 : Shape := ⟨2, ![400, 128]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S10000x128, .f32⟩
  | .local _ .vmem, ⟨0, _⟩ => ⟨S128x128, .f32⟩
  | .local _ .vmem, ⟨1, _⟩ => ⟨S400x10000, .f32⟩
  | .local _ .vmem, ⟨2, _⟩ => ⟨S400x10000, .f32⟩
  | .local _ .vmem, ⟨3, _⟩ => ⟨S400x128, .f32⟩
  | .local _ .vmem, ⟨4, _⟩ => ⟨S400x128, .f32⟩
  | .local _ .vmem, ⟨5, _⟩ => ⟨S10000x128, .f32⟩
  | .local _ .vmem, ⟨6, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Proof.Value.Body.lean ====
/-
  What the kernel body computes, at any float instance. At the first grid point the body copies the source features
  into its scratch and leaves `x · w` in the carried scratch; at every point it leaves, in the output's staging buffer,
  the rectified product of the point's block of the neighborhood matrix with what the carried scratch then holds.
-/
module

public import proofs.«01_k».proof.Proof.Gen.KernelIdeal.Value
public import Idealize.ShloMosaic.Lib.Tactic

@[expose] public section

noncomputable section

namespace Cert.KernelIdeal.Body

open Cert.KernelIdeal Cert.KernelIdeal.Gen Idealize.ShloMosaic Idealize.ShloMosaic.TcCoe Idealize.SL.Sem

variable {F : FTy → Type} [FloatOps F]

/-- The offsets of every load and store of the body are zero. -/
theorem off_zero : (![0, 0] : Fin 2 → Nat) = fun _ => 0 := funext fun a => by fin_cases a <;> rfl

/-- A buffer that was filled whole by one transfer, loaded whole: the transferred contents. -/
theorem load_filled {s : Shape} {e : EltTy} {κ : Kind} {sp : Space} (v : View sig κ sp s e)
    (off : Fin s.rank → Nat) (hoff : off = fun _ => 0) (inb : ∀ a, off a + s.size a ≤ s.size a) (g : s.Idx → Elt F e) :
    v.readCov [⟨Rect.whole s, g⟩] (Rect.unit off s.size inb).toLoadRect = g := by
  subst hoff
  rw [View.readCov_eq_canon']
  funext j
  refine (congrArg _ ?_).trans (View.canon_cons_emb (Rect.whole s) g [] j)
  funext a
  apply Fin.ext
  rw [LoadRect.idx_apply]
  show 0 + 1 * (j a).val = _
  rw [Rect.emb_whole_apply]
  omega

/-- FIRST POINT, the carried scratch: `x · w`, the copy into the body's own buffer having delivered all of `x`. -/
theorem scratch_first (c : Dev nD) (i : grid0.Coords) (a2 : Memref sig .tc .vmem S128x128 .f32) (h2 : a2.IsWhole)
    (a3 : Memref sig .tc .vmem S400x10000 .f32) (h3 : a3.IsWhole) (a4 : Memref sig .tc .vmem S400x128 .f32) (h4 : a4.IsWhole)
    (a5 : Memref sig .tc .vmem S10000x128 .f32) (h5 : a5.IsWhole) (a6 : Memref sig .tc .vmem S10000x128 .f32) (h6 : a6.IsWhole)
    (hc : cond0_0 i) (w : Vec F S128x128 .f32) (nb : Vec F S400x10000 .f32) (x : HbBuf0 (F := F) c hbM0_0) :
    sout0_A_0 c i a2 h2 a3 h3 a4 h4 a5 h5 a6 h6 hc w nb x = k0_pay1 x w := by
  unfold sout0_A_0
  rw [View.read_writes_eq_canon _ _ _ (scover0_A_0 c i a2 h2 a3 h3 a4 h4 a5 h5 a6 h6 hc w nb x)]
  unfold kernelRun0_A
  dsimp only
  sl_unfold_words
  rw [View.canon_unit_zero off_zero, load_filled _ _ off_zero]
  simp only [View.readAt_eq_ld, h2.read_unread, View.ld_unit_zero (S := S128x128) off_zero]
  rfl

/-- FIRST POINT, the output: the rectified product of the neighborhood block with `x · w`, read back from the scratch. -/
theorem out_first (c : Dev nD) (i : grid0.Coords) (a2 : Memref sig .tc .vmem S128x128 .f32) (h2 : a2.IsWhole)
    (a3 : Memref sig .tc .vmem S400x10000 .f32) (h3 : a3.IsWhole) (a4 : Memref sig .tc .vmem S400x128 .f32) (h4 : a4.IsWhole)
    (a5 : Memref sig .tc .vmem S10000x128 .f32) (h5 : a5.IsWhole) (a6 : Memref sig .tc .vmem S10000x128 .f32) (h6 : a6.IsWhole)
    (hc : cond0_0 i) (w : Vec F S128x128 .f32) (nb : Vec F S400x10000 .f32) (x : HbBuf0 (F := F) c hbM0_0) :
    out0_A_2 c i a2 h2 a3 h3 a4 h4 a5 h5 a6 h6 hc w nb x = k0_pay2 nb (k0_pay1 x w) := by
  unfold out0_A_2
  rw [View.read_writes_eq_canon _ _ _ (cover0_A_2 c i a2 h2 a3 h3 a4 h4 a5 h5 a6 h6 hc w nb x)]
  unfold kernelRun0_A
  dsimp only
  sl_unfold_words
  rw [View.canon_unit_zero off_zero, View.readCov_unit_zero (S := S10000x128) _ off_zero, load_filled _ _ off_zero]
  simp only [View.readAt_eq_ld, h2.read_unread, h3.read_unread, View.ld_unit_zero (S := S128x128) off_zero,
    View.ld_unit_zero (S := S400x10000) off_zero]
  rfl

/-- LATER POINTS, the output: the rectified product of the neighborhood block with what the scratch carries. -/
theorem out_later (c : Dev nD) (i : grid0.Coords) (a2 : Memref sig .tc .vmem S128x128 .f32) (h2 : a2.IsWhole)
    (a3 : Memref sig .tc .vmem S400x10000 .f32) (h3 : a3.IsWhole) (a4 : Memref sig .tc .vmem S400x128 .f32) (h4 : a4.IsWhole)
    (a5 : Memref sig .tc .vmem S10000x128 .f32) (h5 : a5.IsWhole) (a6 : Memref sig .tc .vmem S10000x128 .f32) (h6 : a6.IsWhole)
    (hc : ¬cond0_0 i) (w : Vec F S128x128 .f32) (nb : Vec F S400x10000 .f32) (msg : Vec F S10000x128 .f32) (x : HbBuf0 (F := F) c hbM0_0) :
    out0_B_2 c i a2 h2 a3 h3 a4 h4 a5 h5 a6 h6 hc w nb msg x = k0_pay2 nb msg := by
  unfold out0_B_2
  rw [View.read_writes_eq_canon _ _ _ (cover0_B_2 c i a2 h2 a3 h3 a4 h4 a5 h5 a6 h6 hc w nb msg x)]
  unfold kernelRun0_B
  dsimp only
  rw [View.canon_unit_zero off_zero]
  simp only [View.readAt_eq_ld, h3.read_unread, h5.read_unread, View.ld_unit_zero (S := S10000x128) off_zero,
    View.ld_unit_zero (S := S400x10000) off_zero]

variable (m : (ℓ : Loc nD τ sig) → Buf (Elt F) ℓ)

/-- The first grid point. -/
abbrev first : Fin cfg0.N := ⟨0, by rw [show cfg0.N = 25 from N_0]; decide⟩

/-- The message `x · w`, of the source features and the first point's weight block. -/
def message (c : Dev nD) : Vec F S10000x128 .f32 := k0_pay1 (V m c main_arg0) (iblk m c 0 first)

/-- After every point the output's staging buffer holds the rectified product of the point's neighborhood block with
    the message, and the carried scratch holds the message: by induction on the point. -/
theorem after_point (c : Dev nD) : ∀ (n : ℕ) (h : n < cfg0.N),
    outsAt0 m c n h = (k0_pay2 (iblk m c 1 ⟨n, h⟩) (message m c), message m c)
  | 0, h => by
    rw [outsAt0_A m c ⟨0, h⟩ rfl, out_first, scratch_first]
    rfl
  | n + 1, h => by
    have hN : cfg0.N = 25 := N_0
    rw [outsAt0_B m c ⟨n + 1, h⟩ (by dsimp only; omega), out_later]
    unfold sout0_B_0
    simp only [Nat.add_sub_cancel]
    rw [after_point c n]

end Cert.KernelIdeal.Body

end
-- ==== Proof.Value.Spec.lean ====
/-
  The function both programs compute over the extended reals, and the payloads of the kernel read at an index.
-/
module

public import proofs.«01_k».proof.Proof.Gen.KernelIdeal.Skeleton
public import proofs.«01_k».proof.Proof.Gen.ReferenceIdeal
public import Idealize.ShloMosaic.PureOps.Ideal
public import Idealize.ShloMosaic.Lib.Pointwise

@[expose] public section

noncomputable section

namespace Cert.Hbs

open Idealize.ShloMosaic
open scoped BigOperators

/-- The message of node `k` in feature `j`: row `k` of `x` times column `j` of `w`. -/
def msg (x : Cert.KernelIdeal.S10000x128.Idx → EReal) (w : Cert.KernelIdeal.S128x128.Idx → EReal) (k : Fin 10000) (j : Fin 128) : EReal :=
  ∑ l : Fin 128, x (ix2 k l) * w (ix2 l j)

/-- The layer: the messages of all nodes, weighted by a row of the neighborhood matrix and summed, rectified. -/
def layer (x : Cert.KernelIdeal.S10000x128.Idx → EReal) (nb : Cert.KernelIdeal.S10000x10000.Idx → EReal)
    (w : Cert.KernelIdeal.S128x128.Idx → EReal) (i : Cert.KernelIdeal.S10000x128.Idx) : EReal :=
  max (∑ k : Fin 10000, nb (ix2 (i 0) k) * msg x w k (i 1)) 0

/-- The first point's product, at an index, is the message. -/
theorem pay1_apply (x : Vec Ideal Cert.KernelIdeal.S10000x128 .f32) (w : Vec Ideal Cert.KernelIdeal.S128x128 .f32) (k : Fin 10000) (j : Fin 128) :
    Cert.KernelIdeal.Gen.k0_pay1 (F := Ideal) x w (ix2 k j) = msg x w k j := by
  unfold Cert.KernelIdeal.Gen.k0_pay1 msg
  pointwise

/-- A point's stored block, at an index: the rectified sum of products over all nodes. -/
theorem pay2_apply (nb : Vec Ideal Cert.KernelIdeal.S400x10000 .f32) (v : Vec Ideal Cert.KernelIdeal.S10000x128 .f32) (r : Fin 400) (j : Fin 128) :
    Cert.KernelIdeal.Gen.k0_pay2 (F := Ideal) nb v (ix2 r j) = max (∑ k : Fin 10000, nb (ix2 r k) * v (ix2 k j)) 0 := by
  unfold Cert.KernelIdeal.Gen.k0_pay2
  pointwise

open Cert.ReferenceIdeal Cert.ReferenceIdeal.Gen in
/-- The reference's term, the two products and the maximum with the broadcast zero, is the layer. -/
theorem reference_eq (x : FVec Ideal S10000x128 .f32) (nb : FVec Ideal S10000x10000 .f32) (w : FVec Ideal S128x128 .f32) :
    maximumf (Host.dotGeneral dot_S10000x10000_S10000x128_S10000x128_1_0_0_1_n_n none nb
        (Host.dotGeneral dot_S10000x128_S128x128_S10000x128_1_0_0_1_n_n none x w))
      (broadcastInDim S10000x128 ![] bcast_S_S10000x128 (constant (F := Ideal) S_ .f32 0x00000000#32)) = layer x nb w := by
  funext i
  unfold layer msg
  pointwise

end Cert.Hbs

end
-- ==== Proof.Value.Array.lean ====
/-
  What the kernel's result array holds over the extended reals: the 25 blocks of 400 rows tile the 10000 rows, and
  each is the corresponding block of the layer of the three arguments.
-/
module

public import proofs.«01_k».proof.Proof.Value.Body
public import proofs.«01_k».proof.Proof.Value.Spec

@[expose] public section

noncomputable section

namespace Cert.KernelIdeal.Result

open Cert.KernelIdeal Cert.KernelIdeal.Gen Cert.KernelIdeal.Body Idealize.ShloMosaic Idealize.ShloMosaic.TcCoe Idealize.SL.Sem
open Idealize.ShloMosaic.Pipeline (Dat)

variable (m : (ℓ : Loc nD τ sig) → Buf (Elt Ideal) ℓ)

/-- Device `c`'s source features, neighborhood matrix and weight. -/
abbrev xArr (c : Dev nD) : S10000x128.Idx → EReal := m ((c : Thread nD τ).loc main_arg0)
abbrev nbArr (c : Dev nD) : S10000x10000.Idx → EReal := m ((c : Thread nD τ).loc main_arg1)
abbrev wArr (c : Dev nD) : S128x128.Idx → EReal := m ((c : Thread nD τ).loc main_arg2)

/-- The layer of the three, as contents of the result array. -/
abbrev goal (c : Dev nD) : Buf (Elt Ideal) ((c : Thread nD τ).loc main_v0) := Cert.Hbs.layer (xArr m c) (nbArr m c) (wArr m c)

/-- The one grid coordinate of a point is its number. -/
theorem coord (t : Fin cfg0.N) : (grid0.coords t 0).val = t.val := by
  have ht : t.val < 25 := lt_of_lt_of_eq t.isLt N_0
  have e : (grid0.coords t 0).val = t.val / 1 % 25 := Pipeline.Grid.coords_val t 0 (by decide) rfl
  omega

/-- Point `t`'s neighborhood block starts at row block `t`, column 0, -/
theorem index_nb (t : Fin cfg0.N) : win0_1.index t 0 = t.val ∧ win0_1.index t 1 = 0 := by
  refine ⟨?_, rfl⟩
  have ht : t.val < 25 := lt_of_lt_of_eq t.isLt N_0
  show (BitVec.ofNat 32 (grid0.coords t 0).val).toNat = t.val
  rw [coord, BitVec.toNat_ofNat]
  omega

/-- and so does its result block. -/
theorem index_out (t : Fin cfg0.N) : win0_2.index t 0 = t.val ∧ win0_2.index t 1 = 0 := by
  refine ⟨?_, rfl⟩
  have ht : t.val < 25 := lt_of_lt_of_eq t.isLt N_0
  show (BitVec.ofNat 32 (grid0.coords t 0).val).toNat = t.val
  rw [coord, BitVec.toNat_ofNat]
  omega

/-- Row `r` of point `t`'s block is row `400 t + r` of the array. -/
def row (t : Fin cfg0.N) (r : Fin 400) : Fin 10000 :=
  ⟨400 * t.val + r.val, by have := lt_of_lt_of_eq t.isLt N_0; omega⟩

/-- The weight's block is the whole weight, at the first point (as at every other). -/
theorem block_w (c : Dev nD) : (iblk m c 0 first : S128x128.Idx → EReal) = wArr m c := by
  funext j
  unfold iblk
  rw [View.read_apply]
  show V m c main_arg2 _ = m ((c : Thread nD τ).loc main_arg2) _
  unfold V
  congr 1
  funext a
  apply Fin.ext
  match a with
  | ⟨0, _⟩ => show 0 * 128 + 1 * (j 0).val = (j 0).val; omega
  | ⟨1, _⟩ => show 0 * 128 + 1 * (j 1).val = (j 1).val; omega

/-- The neighborhood block of point `t` holds rows `400 t …` of the matrix. -/
theorem block_nb (c : Dev nD) (t : Fin cfg0.N) (r : Fin 400) (k : Fin 10000) :
    (iblk m c 1 t : S400x10000.Idx → EReal) (ix2 r k) = nbArr m c (ix2 (row t r) k) := by
  unfold iblk
  rw [View.read_apply]
  show V m c main_arg1 _ = m ((c : Thread nD τ).loc main_arg1) _
  unfold V
  congr 1
  funext a
  apply Fin.ext
  match a with
  | ⟨0, _⟩ => show win0_1.index t 0 * 400 + 1 * r.val = 400 * t.val + r.val; rw [(index_nb t).1]; omega
  | ⟨1, _⟩ => show win0_1.index t 1 * 10000 + 1 * k.val = k.val; rw [(index_nb t).2]; omega

/-- What point `t` leaves in the staging buffer at (r, j) is the layer at (400 t + r, j). -/
theorem staged_apply (c : Dev nD) (t : Fin cfg0.N) (r : Fin 400) (j : Fin 128) :
    (outsAt0 m c t.val t.isLt).1 (ix2 r j) = Cert.Hbs.layer (xArr m c) (nbArr m c) (wArr m c) (ix2 (row t r) j) := by
  rw [after_point]
  refine (Cert.Hbs.pay2_apply _ _ r j).trans ?_
  unfold Cert.Hbs.layer
  refine congrArg (max · 0) (Finset.sum_congr rfl fun k _ => ?_)
  refine congrArg₂ (· * ·) (block_nb m c t r k) ?_
  refine (Cert.Hbs.pay1_apply _ _ k j).trans ?_
  rw [block_w]
  rfl

/-- So what point `t` writes back is block `t` of the layer. -/
theorem written_back (c : Dev nD) (t : Fin cfg0.N) :
    (dats m 0 c).flushed 2 t = ((cfg0.win 2).blk t).view.read (Elt Ideal) (goal m c) := by
  rw [Value.flushed2]
  funext j
  rw [View.read_apply]
  refine (congrArg (outsAt0 m c t.val t.isLt).1 (show _ = ix2 (j 0) (j 1) from ?_)).trans ((staged_apply m c t (j 0) (j 1)).trans ?_)
  · exact Shape.idx_ext₂ rfl rfl
  · show goal m c _ = goal m c _
    congr 1
    funext a
    apply Fin.ext
    match a with
    | ⟨0, _⟩ => show 400 * t.val + (j 0).val = win0_2.index t 0 * 400 + 1 * (j 0).val; rw [(index_out t).1]; omega
    | ⟨1, _⟩ => show (j 1).val = win0_2.index t 1 * 128 + 1 * (j 1).val; rw [(index_out t).2]; omega

/-- Every index of the result array lies in the block of the point `row / 400`. -/
theorem tiled (i : S10000x128.Idx) :
    ∃ t : Fin cfg0.N, (cfg0.win 2).flush t = true ∧ i ∈ ((cfg0.win 2).blk t).view.set := by
  have h0 : (i 0).val < 10000 := (i 0).isLt
  have h1 : (i 1).val < 128 := (i 1).isLt
  have hN : cfg0.N = 25 := N_0
  refine ⟨⟨(i 0).val / 400, by omega⟩, flush0_2 _, ?_⟩
  generalize ht : (⟨(i 0).val / 400, _⟩ : Fin cfg0.N) = t
  have hv : (i 0).val / 400 = t.val := congrArg Fin.val ht
  show i ∈ ((View.whole main_v0).slice (win0_2.rect t)).set
  rw [View.set_slice_whole, Rect.mem_set_unit]
  intro a
  match a with
  | ⟨0, _⟩ => show win0_2.index t 0 * 400 ≤ (i 0).val ∧ (i 0).val < win0_2.index t 0 * 400 + 400
              rw [(index_out t).1]; omega
  | ⟨1, _⟩ => show win0_2.index t 1 * 128 ≤ (i 1).val ∧ (i 1).val < win0_2.index t 1 * 128 + 128
              rw [(index_out t).2]; omega

/-- The result array ends holding the layer. -/
theorem final (c : Dev nD) : (dats m 0 c).arrAt 2 cfg0.N = goal m c :=
  (dats m 0 c).arrAt_eq_of_cover 2 (goal m c) (fun t _ => written_back m c t) tiled

end Cert.KernelIdeal.Result

end
-- ==== Proof.lean ====
/-
  The proof of `Cert.Claim` for the fused kernel of `relu (neighborhood · (x_source · weight))`: the three frames, the
  idealization (which rewrote nothing), and the equality with the reference over the extended reals. The values are in
  Proof/Value: `Body` (what one grid point computes), `Spec` (the function, the payloads and the reference at an index),
  `Array` (the result array after the last point).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Value.Array
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments as they were, and declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Over the extended reals the kernel and the reference both end with the layer of equal arguments. -/
theorem algebraic : Cert.algebraic_KernelIdeal_ReferenceIdeal := by
  intro m ρ m' ρ' _ hagree
  refine ⟨fun c => Cert.KernelIdeal.Result.goal m c, ?_, ?_⟩
  · exact (θ_run Cert.KernelIdeal.defs _ _).mono
      (fun _ h c => ⟨(h c).1.trans (Cert.KernelIdeal.Result.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1]
    exact Cert.Hbs.reference_eq _ _ _

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial, algebraic⟩

end Cert.Proof

end
